-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x512 : Shape := ⟨3, ![16, 512, 512]⟩
abbrev S16 : Shape := ⟨1, ![16]⟩
abbrev S7x8 : Shape := ⟨2, ![7, 8]⟩
abbrev S_ : Shape := ⟨0, ![]⟩
abbrev S1 : Shape := ⟨1, ![1]⟩
abbrev S8 : Shape := ⟨1, ![8]⟩
abbrev S1x8x128 : Shape := ⟨3, ![1, 8, 128]⟩
abbrev S8x7 : Shape := ⟨2, ![8, 7]⟩
abbrev S2 : Shape := ⟨1, ![2]⟩
abbrev S128x128 : Shape := ⟨2, ![128, 128]⟩
abbrev S1x128x128 : Shape := ⟨3, ![1, 128, 128]⟩
abbrev S16x512x8x512 : Shape := ⟨4, ![16, 512, 8, 512]⟩
abbrev S1x512x512 : Shape := ⟨3, ![1, 512, 512]⟩
abbrev S1x512x8x512 : Shape := ⟨4, ![1, 512, 8, 512]⟩
abbrev S512x512 : Shape := ⟨2, ![512, 512]⟩
abbrev S8x128 : Shape := ⟨2, ![8, 128]⟩
abbrev S512x8x128 : Shape := ⟨3, ![512, 8, 128]⟩
abbrev S512x128 : Shape := ⟨2, ![512, 128]⟩
abbrev S512x1x128 : Shape := ⟨3, ![512, 1, 128]⟩
abbrev S512x8x128x1 : Shape := ⟨4, ![512, 8, 128, 1]⟩
abbrev S1x512x8x128 : Shape := ⟨4, ![1, 512, 8, 128]⟩
abbrev S16x8x384 : Shape := ⟨3, ![16, 8, 384]⟩
abbrev S16x384 : Shape := ⟨2, ![16, 384]⟩
abbrev S16x1x384 : Shape := ⟨3, ![16, 1, 384]⟩
abbrev S128x384 : Shape := ⟨2, ![128, 384]⟩
abbrev S1x16x8x384 : Shape := ⟨4, ![1, 16, 8, 384]⟩
abbrev S16x512x512x8 : Shape := ⟨4, ![16, 512, 512, 8]⟩

abbrev nBuf : Space → Nat
  | .hbm => 119
  | .vmem => 6
  | .smem => 1
  | _ => 0

abbrev bufTy : (tb : Table) → Fin (tcTables nBuf tb) → BufTy
  | .hbm, ⟨0, _⟩ => ⟨S16x512x512, .i32⟩
  | .hbm, ⟨1, _⟩ => ⟨S7x8, .f32⟩
  | .hbm, ⟨2, _⟩ => ⟨S_, .i32⟩
  | .hbm, ⟨3, _⟩ => ⟨S1, .i32⟩
  | .hbm, ⟨4, _⟩ => ⟨S_, .f32⟩
  | .hbm, ⟨5, _⟩ => ⟨S8, .f32⟩
  | .hbm, ⟨6, _⟩ => ⟨S7x8, .f32⟩
  | .hbm, ⟨7, _⟩ => ⟨S_, .f32⟩
  | .hbm, ⟨8, _⟩ => ⟨S1x8x128, .f32⟩
  | .hbm, ⟨9, _⟩ => ⟨S8x7, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x8x128, .f32⟩
  | .hbm, ⟨16, _⟩ => ⟨S8x7, .f32⟩
  | .hbm, ⟨17, _⟩ => ⟨S8x7, .bf16⟩
  | .hbm, ⟨18, _⟩ => ⟨S_, .bf16⟩
  | .hbm, ⟨19, _⟩ => ⟨S128x128, .bf16⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S128x128, .bf16⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S128x128, .bf16⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S128x128, .bf16⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S128x128, .bf16⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S128x128, .bf16⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S128x128, .bf16⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S128x128, .bf16⟩
  | .hbm, ⟨62, _⟩ => ⟨S_, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S2, .i32⟩
  | .hbm, ⟨67, _⟩ => ⟨S128x128, .bf16⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S2, .i32⟩
  | .hbm, ⟨73, _⟩ => ⟨S128x128, .bf16⟩
  | .hbm, ⟨74, _⟩ => ⟨S_, .i32⟩
  | .hbm, ⟨75, _⟩ => ⟨S1, .i32⟩
  | .hbm, ⟨76, _⟩ => ⟨S_, .i32⟩
  | .hbm, ⟨77, _⟩ => ⟨S1, .i32⟩
  | .hbm, ⟨78, _⟩ => ⟨S2, .i32⟩
  | .hbm, ⟨79, _⟩ => ⟨S128x128, .bf16⟩
  | .hbm, ⟨80, _⟩ => ⟨S_, .i32⟩
  | .hbm, ⟨81, _⟩ => ⟨S1, .i32⟩
  | .hbm, ⟨82, _⟩ => ⟨S_, .i32⟩
  | .hbm, ⟨83, _⟩ => ⟨S1, .i32⟩
  | .hbm, ⟨84, _⟩ => ⟨S2, .i32⟩
  | .hbm, ⟨85, _⟩ => ⟨S128x128, .bf16⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S2, .i32⟩
  | .hbm, ⟨91, _⟩ => ⟨S128x128, .bf16⟩
  | .hbm, ⟨92, _⟩ => ⟨S_, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S2, .i32⟩
  | .hbm, ⟨97, _⟩ => ⟨S128x128, .bf16⟩
  | .hbm, ⟨98, _⟩ => ⟨S_, .i32⟩
  | .hbm, ⟨99, _⟩ => ⟨S1, .i32⟩
  | .hbm, ⟨100, _⟩ => ⟨S_, .i32⟩
  | .hbm, ⟨101, _⟩ => ⟨S1, .i32⟩
  | .hbm, ⟨102, _⟩ => ⟨S2, .i32⟩
  | .hbm, ⟨103, _⟩ => ⟨S128x128, .bf16⟩
  | .hbm, ⟨104, _⟩ => ⟨S_, .i32⟩
  | .hbm, ⟨105, _⟩ => ⟨S1, .i32⟩
  | .hbm, ⟨106, _⟩ => ⟨S_, .i32⟩
  | .hbm, ⟨107, _⟩ => ⟨S1, .i32⟩
  | .hbm, ⟨108, _⟩ => ⟨S2, .i32⟩
  | .hbm, ⟨109, _⟩ => ⟨S128x128, .bf16⟩
  | .hbm, ⟨110, _⟩ => ⟨S_, .i32⟩
  | .hbm, ⟨111, _⟩ => ⟨S1, .i32⟩
  | .hbm, ⟨112, _⟩ => ⟨S_, .i32⟩
  | .hbm, ⟨113, _⟩ => ⟨S1, .i32⟩
  | .hbm, ⟨114, _⟩ => ⟨S2, .i32⟩
  | .hbm, ⟨115, _⟩ => ⟨S128x128, .bf16⟩
  | .hbm, ⟨116, _⟩ => ⟨S1x128x128, .bf16⟩
  | .hbm, ⟨117, _⟩ => ⟨S16x512x8x512, .f32⟩
  | .hbm, ⟨118, _⟩ => ⟨S16x512x512x8, .f32⟩
  | .local _ .vmem, ⟨0, _⟩ => ⟨S1x512x512, .i32⟩
  | .local _ .vmem, ⟨1, _⟩ => ⟨S1x512x512, .i32⟩
  | .local _ .vmem, ⟨2, _⟩ => ⟨S1x8x128, .f32⟩
  | .local _ .vmem, ⟨3, _⟩ => ⟨S1x128x128, .bf16⟩
  | .local _ .vmem, ⟨4, _⟩ => ⟨S1x512x8x512, .f32⟩
  | .local _ .vmem, ⟨5, _⟩ => ⟨S1x512x8x512, .f32⟩
  | .local _ .smem, ⟨0, _⟩ => ⟨S16, .i32⟩
  | _, _ => ⟨S16x512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_c_4 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_6 : Ref sig .tc := ⟨.hbm, 26, rfl⟩
abbrev main_v16 : Ref sig .tc := ⟨.hbm, 27, rfl⟩
abbrev main_c_7 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_8 : Ref sig .tc := ⟨.hbm, 32, rfl⟩
abbrev main_v20 : Ref sig .tc := ⟨.hbm, 33, rfl⟩
abbrev main_c_9 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_10 : Ref sig .tc := ⟨.hbm, 38, rfl⟩
abbrev main_v24 : Ref sig .tc := ⟨.hbm, 39, rfl⟩
abbrev main_c_11 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_12 : Ref sig .tc := ⟨.hbm, 44, rfl⟩
abbrev main_v28 : Ref sig .tc := ⟨.hbm, 45, rfl⟩
abbrev main_c_13 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_14 : Ref sig .tc := ⟨.hbm, 50, rfl⟩
abbrev main_v32 : Ref sig .tc := ⟨.hbm, 51, rfl⟩
abbrev main_c_15 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_16 : Ref sig .tc := ⟨.hbm, 56, rfl⟩
abbrev main_v36 : Ref sig .tc := ⟨.hbm, 57, rfl⟩
abbrev main_c_17 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_18 : Ref sig .tc := ⟨.hbm, 62, rfl⟩
abbrev main_v40 : Ref sig .tc := ⟨.hbm, 63, rfl⟩
abbrev main_c_19 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_20 : Ref sig .tc := ⟨.hbm, 68, rfl⟩
abbrev main_v44 : Ref sig .tc := ⟨.hbm, 69, rfl⟩
abbrev main_c_21 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_22 : Ref sig .tc := ⟨.hbm, 74, rfl⟩
abbrev main_v48 : Ref sig .tc := ⟨.hbm, 75, rfl⟩
abbrev main_c_23 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_24 : Ref sig .tc := ⟨.hbm, 80, rfl⟩
abbrev main_v52 : Ref sig .tc := ⟨.hbm, 81, rfl⟩
abbrev main_c_25 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_26 : Ref sig .tc := ⟨.hbm, 86, rfl⟩
abbrev main_v56 : Ref sig .tc := ⟨.hbm, 87, rfl⟩
abbrev main_c_27 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_28 : Ref sig .tc := ⟨.hbm, 92, rfl⟩
abbrev main_v60 : Ref sig .tc := ⟨.hbm, 93, rfl⟩
abbrev main_c_29 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_30 : Ref sig .tc := ⟨.hbm, 98, rfl⟩
abbrev main_v64 : Ref sig .tc := ⟨.hbm, 99, rfl⟩
abbrev main_c_31 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_32 : Ref sig .tc := ⟨.hbm, 104, rfl⟩
abbrev main_v68 : Ref sig .tc := ⟨.hbm, 105, rfl⟩
abbrev main_c_33 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_34 : Ref sig .tc := ⟨.hbm, 110, rfl⟩
abbrev main_v72 : Ref sig .tc := ⟨.hbm, 111, rfl⟩
abbrev main_c_35 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x512x512 : Shape := ⟨3, ![16, 512, 512]⟩
abbrev S16 : Shape := ⟨1, ![16]⟩
abbrev S7x8 : Shape := ⟨2, ![7, 8]⟩
abbrev S_ : Shape := ⟨0, ![]⟩
abbrev S1 : Shape := ⟨1, ![1]⟩
abbrev S8 : Shape := ⟨1, ![8]⟩
abbrev S16x512x512x1 : Shape := ⟨4, ![16, 512, 512, 1]⟩
abbrev S1x1x1x1 : Shape := ⟨4, ![1, 1, 1, 1]⟩
abbrev S16x512x512x8 : Shape := ⟨4, ![16, 512, 512, 8]⟩
abbrev S512 : Shape := ⟨1, ![512]⟩
abbrev S1x512 : Shape := ⟨2, ![1, 512]⟩
abbrev S16x1 : Shape := ⟨2, ![16, 1]⟩
abbrev S16x512 : Shape := ⟨2, ![16, 512]⟩
abbrev S16x512x1 : Shape := ⟨3, ![16, 512, 1]⟩
abbrev S16x1x512 : Shape := ⟨3, ![16, 1, 512]⟩

abbrev nBuf : Space → Nat
  | .hbm => 57
  | .vmem => 0
  | .smem => 0
  | _ => 0

abbrev bufTy : (tb : Table) → Fin (tcTables nBuf tb) → BufTy
  | .hbm, ⟨0, _⟩ => ⟨S16x512x512, .i32⟩
  | .hbm, ⟨1, _⟩ => ⟨S16, .i32⟩
  | .hbm, ⟨2, _⟩ => ⟨S7x8, .f32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S8, .f32⟩
  | .hbm, ⟨7, _⟩ => ⟨S7x8, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S16x512x512, .i32⟩
  | .hbm, ⟨12, _⟩ => ⟨S16x512x512, .i32⟩
  | .hbm, ⟨13, _⟩ => ⟨S_, .i32⟩
  | .hbm, ⟨14, _⟩ => ⟨S16x512x512, .i32⟩
  | .hbm, ⟨15, _⟩ => ⟨S16x512x512, .i32⟩
  | .hbm, ⟨16, _⟩ => ⟨S_, .i32⟩
  | .hbm, ⟨17, _⟩ => ⟨S16x512x512, .i32⟩
  | .hbm, ⟨18, _⟩ => ⟨S16x512x512, .i32⟩
  | .hbm, ⟨19, _⟩ => ⟨S_, .i32⟩
  | .hbm, ⟨20, _⟩ => ⟨S16x512x512, .i32⟩
  | .hbm, ⟨21, _⟩ => ⟨S16x512x512, .i1⟩
  | .hbm, ⟨22, _⟩ => ⟨S_, .i32⟩
  | .hbm, ⟨23, _⟩ => ⟨S16x512x512, .i32⟩
  | .hbm, ⟨24, _⟩ => ⟨S16x512x512, .i32⟩
  | .hbm, ⟨25, _⟩ => ⟨S16x512x512, .i32⟩
  | .hbm, ⟨26, _⟩ => ⟨S16x512x512x1, .i32⟩
  | .hbm, ⟨27, _⟩ => ⟨S1, .i32⟩
  | .hbm, ⟨28, _⟩ => ⟨S_, .i32⟩
  | .hbm, ⟨29, _⟩ => ⟨S16x512x512x1, .i32⟩
  | .hbm, ⟨30, _⟩ => ⟨S16x512x512x1, .i1⟩
  | .hbm, ⟨31, _⟩ => ⟨S1x1x1x1, .i32⟩
  | .hbm, ⟨32, _⟩ => ⟨S16x512x512x1, .i32⟩
  | .hbm, ⟨33, _⟩ => ⟨S16x512x512x1, .i1⟩
  | .hbm, ⟨34, _⟩ => ⟨S16x512x512x1, .i1⟩
  | .hbm, ⟨35, _⟩ => ⟨S_, .i1⟩
  | .hbm, ⟨36, _⟩ => ⟨S16x512x512, .i1⟩
  | .hbm, ⟨37, _⟩ => ⟨S16x512x512x8, .f32⟩
  | .hbm, ⟨38, _⟩ => ⟨S16x512x512x8, .i1⟩
  | .hbm, ⟨39, _⟩ => ⟨S_, .f32⟩
  | .hbm, ⟨40, _⟩ => ⟨S16x512x512x8, .f32⟩
  | .hbm, ⟨41, _⟩ => ⟨S16x512x512x8, .f32⟩
  | .hbm, ⟨42, _⟩ => ⟨S512, .i32⟩
  | .hbm, ⟨43, _⟩ => ⟨S1x512, .i32⟩
  | .hbm, ⟨44, _⟩ => ⟨S16x1, .i32⟩
  | .hbm, ⟨45, _⟩ => ⟨S16x512, .i32⟩
  | .hbm, ⟨46, _⟩ => ⟨S16x512, .i32⟩
  | .hbm, ⟨47, _⟩ => ⟨S16x512, .i1⟩
  | .hbm, ⟨48, _⟩ => ⟨S16x512x1, .i1⟩
  | .hbm, ⟨49, _⟩ => ⟨S16x1x512, .i1⟩
  | .hbm, ⟨50, _⟩ => ⟨S16x512x512, .i1⟩
  | .hbm, ⟨51, _⟩ => ⟨S16x512x512, .i1⟩
  | .hbm, ⟨52, _⟩ => ⟨S16x512x512, .i1⟩
  | .hbm, ⟨53, _⟩ => ⟨S16x512x512x1, .i1⟩
  | .hbm, ⟨54, _⟩ => ⟨S16x512x512x1, .f32⟩
  | .hbm, ⟨55, _⟩ => ⟨S16x512x512x8, .f32⟩
  | .hbm, ⟨56, _⟩ => ⟨S16x512x512x8, .f32⟩
  | _, _ => ⟨S16x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩

abbrev nD : Nat := 1
abbrev τ : Topo := Topo.v7x

variable {F : FTy → Type} [FloatOps F]
-- ==== Proof.Frames.lean ====
/- The frames: each of the three programs runs to the end, leaves its arguments as they were and leaves every
   semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- No index map of the kernel reads the prefetched table of node counts, so every table is admissible. -/
theorem ok_kernel (m : (ℓ : Loc Kernel.nD Kernel.τ Kernel.sig) → Buf (Elt Bits) ℓ) : Kernel.Gen.Ok m := trivial

/-- The same of the kernel read at the ideal instance. -/
theorem ok_kernelIdeal (m : (ℓ : Loc KernelIdeal.nD KernelIdeal.τ KernelIdeal.sig) → Buf (Elt Ideal) ℓ) :
    KernelIdeal.Gen.Ok m := trivial

/-- The kernel, floats as bits: it runs, its three arguments end unchanged, the counters end at zero. -/
theorem frame_kernel : quiescent_Kernel (hKernel := Kernel.Gen.facts) :=
  fun m ρ _ => Kernel.Gen.frame m ρ (ok_kernel m)

/-- The kernel at the ideal instance: it runs, its three arguments end unchanged, the counters end at zero. -/
theorem frame_kernelIdeal : quiescent_KernelIdeal (hKernelIdeal := KernelIdeal.Gen.facts) :=
  fun m ρ _ => KernelIdeal.Gen.frame m ρ (ok_kernelIdeal m)

/-- The reference at the ideal instance: it runs, its three arguments end unchanged; it declares no semaphore, so
    its counters are zero. -/
theorem frame_referenceIdeal : quiescent_ReferenceIdeal (hReferenceIdeal := ReferenceIdeal.Gen.facts) :=
  fun m ρ _ => (θ_run ReferenceIdeal.defs _ _).mono
    (fun r h => ⟨fun c => (h c).2, sem_eq_zero_of_no_sems (by decide) r.2⟩)
    (ReferenceIdeal.Value.run m ρ)

end Cert.Proof

end
-- ==== Proof.Spec.lean ====
/- What both programs compute, written as a function of the three arguments: the code of a distance, the table with
   its first row cleared, and the embedding of one pair of nodes. -/
module

public import proofs.«01_k».proof.Proof.Gen.KernelIdeal
public import Idealize.ShloMosaic.Lib.ValueIdx

@[expose] public section

noncomputable section

namespace Cert.Spec

open Idealize.ShloMosaic Idealize.ShloMosaic.ValueIdx

/-- The code of a distance: the distance clipped to the range from -1 to 5, plus one. -/
def code (d : BitVec 32) : BitVec 32 := IntOp.addi (IntOp.minsi 5#32 (IntOp.maxsi 4294967295#32 d)) 1#32

/-- A code is one of 0, …, 6. -/
theorem code_lt (d : BitVec 32) : (code d).toNat < 7 := by
  unfold code IntOp.addi IntOp.minsi IntOp.maxsi
  by_cases h : d.slt 4294967295#32 = true
  · rw [if_pos h]; decide
  · rw [if_neg h]
    by_cases h5 : (5#32).slt d = true
    · rw [if_pos h5]; decide
    · rw [if_neg h5]
      simp only [BitVec.slt, decide_eq_true_eq, BitVec.toInt_ofNat, BitVec.toNat_add, BitVec.toNat_ofNat,
        BitVec.toInt_eq_toNat_cond] at h h5 ⊢
      norm_num at h h5 ⊢
      omega

/-- The row of the table a distance selects. -/
def row (d : BitVec 32) : Fin 7 := ⟨(code d).toNat, code_lt d⟩

/-- The table with its first row cleared. -/
def cleared (x : Vec Ideal KernelIdeal.S7x8 .f32) (e : Fin 7) (h : Fin 8) : EReal :=
  if e = 0 then 0 else x (ix2 e h)

/-- The block-diagonal table: sixteen copies along the diagonal of the cleared table's transpose, each in the first
    seven columns of an 8-by-8 block; zero elsewhere. -/
def diagonal (x : Vec Ideal KernelIdeal.S7x8 .f32) (a b : ℕ) : EReal :=
  if a / 8 = b / 8 then (if h : b % 8 < 7 then cleared x ⟨b % 8, h⟩ ⟨a % 8, Nat.mod_lt _ (by decide)⟩ else 0) else 0

/-- Whether node `i` is among the first `n`, as a bit. -/
def inside (n : BitVec 32) (i : ℕ) : BitVec 1 := IntOp.cmpi .slt (BitVec.ofNat 32 i) n

/-- The row selected for the pair `(i, j)`: that of its distance where both nodes are inside, the first (cleared) one
    elsewhere. -/
def pick (n : BitVec 32) (i j : ℕ) (d : BitVec 32) : Fin 7 :=
  if inside n i = 1 ∧ inside n j = 1 then row d else 0

/-- The embedding of every pair of nodes: the result of both programs. -/
def emb (dist : Vec Ideal KernelIdeal.S16x512x512 .i32) (nn : Vec Ideal KernelIdeal.S16 .i32)
    (x : Vec Ideal KernelIdeal.S7x8 .f32) : Vec Ideal KernelIdeal.S16x512x512x8 .f32 :=
  fun y => cleared x (pick (nn (ix1 (y 0))) (y 1).val (y 2).val (dist (ix3 (y 0) (y 1) (y 2)))) (y 3)

end Cert.Spec

end
-- ==== Proof.Chunk.lean ====
/- One chunk of sixteen rows, lanes 128 to 511: the one-hot matrix of the codes, multiplied on the left by the
   block-diagonal table, is the table's column at each code. -/
module

public import proofs.«01_k».proof.Proof.Spec
public import Idealize.ShloMosaic.Lib.MatmulPlain
public import Idealize.ShloMosaic.Lib.ValueLayout
public import Idealize.ShloMosaic.Lib.Pipeline.Value
public import Idealize.ShloMosaic.Lib.Pointwise.ElementwiseCore
public import Idealize.ShloMosaic.Lib.Pointwise.Tactic

@[expose] public section

noncomputable section

namespace Cert.KernelIdeal.Chunk

open Idealize.ShloMosaic hiding ix0 ix1 ix2 ix3 ix4
open Idealize.ShloMosaic.ValueIdx Cert.Spec

/-- The one-hot matrix of the codes of the sixteen rows from `o`: row `8 r + e` marks the lanes of row `r` whose code
    is `e`. -/
def oneHot (o : ℕ) (h : S512x512.Slices ![o, 128] S16x384) (v21 : IVec S512x512 32) : FVec Ideal S128x384 .bf16 :=
  shapeCast S128x384 (truncf .bf16 (sitofp .f32 (extui 32 (cmpi .eq
    (broadcastTo S16x8x384 (shapeCast S16x1x384 (extractStridedSlice S16x384 ![o, 128] v21 h)
      Gen.shapeCasts_S16x384_S16x1x384) Gen.broadcasts_S16x1x384_S16x8x384)
    (iota .tc S16x8x384 32 [1] Gen.iota_S16x8x384_d1_w32)) Gen.natLt_1_32) : FVec Ideal S16x8x384 .f32)
    Gen.bitsLt_bf16_f32) Gen.shapeCasts_S16x8x384_S128x384

/-- What one chunk stores: the table times the one-hot matrix, cut into sixteen rows of eight features. -/
def chunk (o : ℕ) (h : S512x512.Slices ![o, 128] S16x384) (v21 : IVec S512x512 32) (v42 : FVec Ideal S128x128 .bf16) :
    FVec Ideal S1x16x8x384 .f32 :=
  shapeCast S1x16x8x384 (shapeCast S16x8x384
    (matmul dot_S128x128_S128x384_S128x384_1_0_0_1_n_n none v42 (oneHot o h v21)
      (constant S128x384 .f32 0x00000000#32)) Gen.shapeCasts_S128x384_S16x8x384)
    Gen.shapeCasts_S16x8x384_S1x16x8x384

/-- The one-hot matrix at row `k` and lane `l`: one where the code of row `o + k / 8` is `k % 8`, zero elsewhere. -/
theorem oneHot_apply (o : ℕ) (h : S512x512.Slices ![o, 128] S16x384) (v21 : IVec S512x512 32) (k : Fin 128) (l : Fin 384)
    (A B : Fin 512) (hA : A.val = o + k.val / 8) (hB : B.val = 128 + l.val) :
    oneHot o h v21 (ix2 k l) = if v21 (ix2 A B) = BitVec.ofNat 32 (k.val % 8) then 1 else 0 := by
  unfold oneHot
  rw [shapeCast_apply _ _ _ (ix3 (⟨k.val / 8, by omega⟩ : Fin 16) (⟨k.val % 8, by omega⟩ : Fin 8) l) (by
    rw [Shape.rowMajor_val_three, Shape.rowMajor_val_two]
    show (k.val / 8 * 8 + k.val % 8) * 384 + l.val = k.val * 384 + l.val
    congr 2; omega)]
  rw [truncf_apply, sitofp_apply, extui_apply, cmpi_apply, iota_single_apply,
    broadcastTo_apply _ _ _ (ix3 (⟨k.val / 8, by omega⟩ : Fin 16) (0 : Fin 1) l) (by
      intro a; match a with | ⟨0, _⟩ => rfl | ⟨1, _⟩ => rfl | ⟨2, _⟩ => rfl),
    shapeCast_apply _ _ _ (ix2 (⟨k.val / 8, by omega⟩ : Fin 16) l) (by
      rw [Shape.rowMajor_val_three, Shape.rowMajor_val_two]
      show k.val / 8 * 384 + l.val = (k.val / 8 * 1 + 0) * 384 + l.val
      omega),
    extractStridedSlice_apply _ _ _ _ (ix2 A B) (by
      intro a; match a with | ⟨0, _⟩ => exact hA | ⟨1, _⟩ => exact hB)]
  show (((IntOp.cmpi .eq (v21 (ix2 A B)) (BitVec.ofNat 32 (k.val % 8))).setWidth 32).toInt : ℝ) = (_ : EReal)
  unfold IntOp.cmpi
  by_cases hc : v21 (ix2 A B) = BitVec.ofNat 32 (k.val % 8)
  · rw [if_pos hc, hc]; simp
  · rw [if_neg hc, beq_eq_false_iff_ne.2 hc]; simp

/-- One chunk at row `r`, feature `f` and lane `l`: the cleared table at the code of row `o + r`, lane `128 + l`. -/
theorem chunk_apply (x : Vec Ideal S7x8 .f32) (o : ℕ) (h : S512x512.Slices ![o, 128] S16x384) (v21 : IVec S512x512 32)
    (v42 : FVec Ideal S128x128 .bf16) (c : Fin 512 → Fin 512 → Fin 7)
    (h21 : ∀ a b, v21 (ix2 a b) = BitVec.ofNat 32 (c a b).val)
    (h42 : ∀ a b, v42 (ix2 a b) = diagonal x a.val b.val)
    (u : Fin 1) (r : Fin 16) (f : Fin 8) (l : Fin 384) (A B : Fin 512) (hA : A.val = o + r.val) (hB : B.val = 128 + l.val) :
    chunk o h v21 v42 (ix4 u r f l) = cleared x (c A B) f := by
  unfold chunk
  rw [shapeCast_abc_1abc_apply, shapeCast_apply _ _ _ (ix2 (⟨r.val * 8 + f.val, by omega⟩ : Fin 128) l) (by
    rw [Shape.rowMajor_val_three, Shape.rowMajor_val_two]; rfl)]
  show FloatOps.matmul (DotDims.plain 128 128 384) none v42 (oneHot o h v21) _ _ = _
  rw [Ideal.matmul_plain_apply, constant_apply, Ideal.ofBits_zero, zero_add]
  have hlt := (c A B).isLt
  rw [Finset.sum_eq_single (⟨r.val * 8 + (c A B).val, by omega⟩ : Fin 128)]
  · rw [oneHot_apply o h v21 _ l A B (by show _ = o + (r.val * 8 + (c A B).val) / 8; omega) hB, h21, h42]
    rw [if_pos (by congr 1; show _ = (r.val * 8 + (c A B).val) % 8; omega), mul_one]
    unfold diagonal
    rw [if_pos (by show (r.val * 8 + f.val) / 8 = (r.val * 8 + (c A B).val) / 8; omega),
      dif_pos (by show (r.val * 8 + (c A B).val) % 8 < 7; omega)]
    congr 1
    · apply Fin.ext; show (r.val * 8 + (c A B).val) % 8 = _; omega
    · apply Fin.ext; show (r.val * 8 + f.val) % 8 = _; omega
  · intro k _ hk
    rw [h42]
    unfold diagonal
    by_cases hd : (r.val * 8 + f.val) / 8 = k.val / 8
    · have hne : ¬BitVec.ofNat 32 (c A B).val = BitVec.ofNat 32 (k.val % 8) := by
        intro he
        have he' := congrArg BitVec.toNat he
        simp only [BitVec.toNat_ofNat] at he'
        apply hk; apply Fin.ext
        show k.val = r.val * 8 + (c A B).val
        omega
      rw [oneHot_apply o h v21 k l A B (by omega) hB, h21, if_neg hne, mul_zero]
    · rw [if_neg hd, zero_mul]
  · intro hk; exact absurd (Finset.mem_univ _) hk

end Cert.KernelIdeal.Chunk

end
-- ==== Proof.Codes.lean ====
/- The codes of one block, and its first 128 lanes: a gather of the table's columns by the codes. -/
module

public import proofs.«01_k».proof.Proof.Spec
public import proofs.«01_k».proof.Proof.Gen.KernelIdeal.Skeleton
public import Idealize.ShloMosaic.Lib.ValueLayout
public import Idealize.ShloMosaic.Lib.Pipeline.Value
public import Idealize.ShloMosaic.Lib.Pointwise.ElementwiseCore

@[expose] public section

noncomputable section

namespace Cert.KernelIdeal.Codes

open Idealize.ShloMosaic Idealize.ShloMosaic.ValueIdx Cert.Spec

/-- The row a pair selects, from the two comparisons joined as the kernel joins them. -/
theorem select_pick (n : BitVec 32) (i j : ℕ) (d : BitVec 32) :
    Scalar.select (IntOp.andi (inside n j) (inside n i)) (code d) 0#32 = BitVec.ofNat 32 (pick n i j d).val := by
  unfold pick
  by_cases hi : inside n i = 1
  · by_cases hj : inside n j = 1
    · rw [if_pos ⟨hi, hj⟩, hi, hj]
      show code d = BitVec.ofNat 32 (code d).toNat
      rw [BitVec.ofNat_toNat, BitVec.setWidth_eq]
    · rw [if_neg fun h => hj h.2, eq_zero_of_ne_one hj, hi]; rfl
  · rw [if_neg fun h => hi h.1, eq_zero_of_ne_one hi]
    have : IntOp.andi (inside n j) 0#1 = 0#1 := BitVec.and_zero
    rw [this]; rfl

/-- The kernel's matrix of codes at row `a` and lane `b`: the row selected for the pair. -/
theorem codes_apply (i : grid0.Coords) (n : BitVec 32) (d : Vec Ideal S1x512x512 .i32) (a b : Fin 512) :
    Gen.k0_pay2 (F := Ideal) i n d (ix2 a b) = BitVec.ofNat 32 (pick n a.val b.val (d (ix3 (0 : Fin 1) a b))).val := by
  rw [← select_pick]
  unfold Gen.k0_pay2
  have hi : i 1 = (0 : Fin 1) := Fin.ext (Nat.lt_one_iff.1 (i 1).isLt)
  have hz : Scalar.muli (BitVec.ofNat 32 (i 1).val) 512#32 = 0#32 := by rw [hi]; rfl
  rw [hz]
  dsimp only
  rw [select_apply]
  show Scalar.select (IntOp.andi (IntOp.cmpi .slt (iota .tc S512x512 32 [1] _ _) n)
    (IntOp.cmpi .slt (iota .tc S512x512 32 [0] _ _ + 0#32) n))
    (code (shapeCast S512x512 d _ (ix2 a b))) 0#32 = _
  rw [iota_single_apply, iota_single_apply, shapeCast_1ab_ab_apply, BitVec.add_zero]
  rfl

/-- The codes of the first 128 lanes, repeated for the eight features. -/
def wide (v21 : IVec S512x512 32) : IVec S512x8x128 32 :=
  broadcastTo S512x8x128 (shapeCast S512x1x128 (shapeCast S512x1x128
    (extractStridedSlice S512x128 ![0, 0] v21 Gen.slices_S512x512_o0_0_S512x128)
    Gen.shapeCasts_S512x128_S512x1x128) Gen.shapeCasts_S512x1x128_S512x1x128) Gen.broadcasts_S512x1x128_S512x8x128

/-- They do not depend on the feature. -/
theorem wide_apply (v21 : IVec S512x512 32) (a : Fin 512) (f : Fin 8) (l : Fin 128) (b : Fin 512) (hb : b.val = l.val) :
    wide v21 (ix3 a f l) = v21 (ix2 a b) := by
  unfold wide
  rw [shapeCast_self, broadcastTo_apply _ _ _ (ix3 a (0 : Fin 1) l) (by
      intro q; match q with | ⟨0, _⟩ => rfl | ⟨1, _⟩ => rfl | ⟨2, _⟩ => rfl),
    shapeCast_apply _ _ _ (ix2 a l) (by
      rw [Shape.rowMajor_val_three, Shape.rowMajor_val_two]
      show a.val * 128 + l.val = (a.val * 1 + 0) * 128 + l.val
      omega),
    extractStridedSlice_apply _ _ _ _ (ix2 a b) (by
      intro q; match q with | ⟨0, _⟩ => exact (Nat.zero_add _).symm | ⟨1, _⟩ => exact hb.trans (Nat.zero_add _).symm)]

/-- A code is not negative, so the kernel's wrapping of negative lane numbers leaves it alone. -/
theorem unwrapped (e : Fin 7) : Scalar.select (IntOp.cmpi .slt (BitVec.ofNat 32 e.val) 0#32)
    (IntOp.addi (BitVec.ofNat 32 e.val) 128#32) (BitVec.ofNat 32 e.val) = BitVec.ofNat 32 e.val := by
  revert e; decide

/-- The first 128 lanes at row `a`, feature `f` and lane `l`: the table's entry at the feature and the pair's code. -/
theorem head_apply (i : grid0.Coords) (n : BitVec 32) (d : Vec Ideal S1x512x512 .i32) (t : Vec Ideal S1x8x128 .f32)
    (u : Fin 1) (a : Fin 512) (f : Fin 8) (l : Fin 128) (b : Fin 512) (hb : b.val = l.val) (e : Fin 128)
    (he : e.val = (pick n a.val b.val (d (ix3 (0 : Fin 1) a b))).val) :
    Gen.k0_pay3 (F := Ideal) i n d t (ix4 u a f l) = t (ix3 (0 : Fin 1) f e) := by
  have hw := (wide_apply (Gen.k0_pay2 (F := Ideal) i n d) a f l b hb).trans (codes_apply i n d a b)
  show shapeCast S1x512x8x128 (dynamicGather 2 (broadcastTo S512x8x128 (shapeCast S1x8x128 (shapeCast S8x128 t _) _) _)
    (shapeCast S512x8x128 (shapeCast S512x8x128x1
      (select (cmpi .slt (wide (Gen.k0_pay2 (F := Ideal) i n d)) (broadcast S512x8x128 0#32))
        (addi (wide (Gen.k0_pay2 (F := Ideal) i n d)) (broadcast S512x8x128 128#32))
        (wide (Gen.k0_pay2 (F := Ideal) i n d))) _) _)) _ _ = _
  rw [shapeCast_abc_1abc_apply, dynamicGather_apply, shapeCast_shapeCast, shapeCast_shapeCast]
  refine broadcastTo_apply _ _ _ _ ?_
  intro q
  match q with
  | ⟨0, _⟩ => rfl
  | ⟨1, _⟩ => rfl
  | ⟨2, _⟩ =>
    show e.val = (Scalar.select (IntOp.cmpi .slt (wide (Gen.k0_pay2 (F := Ideal) i n d) (ix3 a f l)) 0#32)
      (IntOp.addi (wide (Gen.k0_pay2 (F := Ideal) i n d) (ix3 a f l)) 128#32)
      (wide (Gen.k0_pay2 (F := Ideal) i n d) (ix3 a f l))).toNat % 128
    rw [hw, unwrapped, ← he, BitVec.toNat_ofNat]
    omega

end Cert.KernelIdeal.Codes

end
-- ==== Proof.Block.lean ====
/- What one grid point leaves in its block of the result: the embedding of every pair of nodes of one graph. -/
module

public import proofs.«01_k».proof.Proof.Chunk
public import proofs.«01_k».proof.Proof.Codes
public import proofs.«01_k».proof.Proof.Gen.KernelIdeal.Frame

@[expose] public section

noncomputable section

namespace Cert.KernelIdeal.Block

open Idealize.ShloMosaic hiding ix0 ix1 ix2 ix3 ix4 eq_ix4
open Idealize.ShloMosaic.ValueIdx Idealize.ShloMosaic.TcCoe Idealize.ShloMosaic.Tactic Cert.Spec

/-- The embedding of one graph's pairs, features before lanes, from its node count `n` and its distances. -/
def graph (x : Vec Ideal S7x8 .f32) (n : BitVec 32) (d : Vec Ideal S1x512x512 .i32) : Vec Ideal S1x512x8x512 .f32 :=
  fun y => cleared x (pick n (y 1).val (y 3).val (d (ix3 (0 : Fin 1) (y 1) (y 3)))) (y 2)

/-- The node count the kernel reads from the prefetched table at a grid point is the graph's. -/
theorem count_apply (c : Dev nD) (i : grid0.Coords) (nn : Vec Ideal S16 .i32) (inb) (hne) :
    View.ld (View.read (Elt Ideal) (View.whole main_arg1) nn) (Rect.unit (s := S16)
      ![BitVec.toNat (Scalar.indexCast (BitVec.ofNat 32 (i 0).val))] ![1] inb) (Shape.Idx.first hne)
      = nn (ix1 (i 0)) := by
  show nn _ = nn _
  congr 1
  funext a
  match a with
  | ⟨0, _⟩ =>
    apply Fin.ext
    have h1 := ((Shape.Idx.first hne) (0 : Fin 1)).isLt
    have h16 : (i 0).val < 16 := (i 0).isLt
    show BitVec.toNat (BitVec.ofNat 32 (i 0).val) + 1 * ((Shape.Idx.first hne) (0 : Fin 1)).val = (i 0).val
    have h0 : ((Shape.Idx.first hne) (0 : Fin 1)).val = 0 := Nat.lt_one_iff.1 h1
    rw [h0, BitVec.toNat_ofNat]
    omega

/-- The first 128 lanes, as stored: the graph's embedding there. -/
theorem head_piece (x : Vec Ideal S7x8 .f32) (i : grid0.Coords) (n n' : BitVec 32) (hn : n' = n) (d : Vec Ideal S1x512x512 .i32)
    (t : Vec Ideal S1x8x128 .f32) (ht : ∀ (f : Fin 8) (e : Fin 7), t (ix3 (0 : Fin 1) f (e.castLE (by decide))) = cleared x e f)
    (inb) (z : S1x512x8x128.Idx) :
    Gen.k0_pay3 (F := Ideal) i n' d t z
      = graph x n d ((Rect.unit (s := S1x512x8x512) ![0, 0, 0, 0] ![1, 512, 8, 128] inb).emb z) := by
  subst hn
  obtain ⟨u, a, f, l, rfl⟩ : ∃ u a f l, z = ix4 u a f l := ⟨_, _, _, _, eq_ix4 z⟩
  have e : (Rect.unit (s := S1x512x8x512) ![0, 0, 0, 0] ![1, 512, 8, 128] inb).emb (ix4 u a f l)
      = ix4 u a f (l.castLE (by decide)) := by
    funext q
    apply Fin.ext
    rw [Rect.emb_apply]
    match q with
    | ⟨0, _⟩ => show 0 + 1 * u.val = u.val; omega
    | ⟨1, _⟩ => show 0 + 1 * a.val = a.val; omega
    | ⟨2, _⟩ => show 0 + 1 * f.val = f.val; omega
    | ⟨3, _⟩ => show 0 + 1 * l.val = l.val; omega
  rw [e, Codes.head_apply i _ d t u a f l (l.castLE (by decide)) rfl
    ((pick n' a.val l.val (d (ix3 (0 : Fin 1) a (l.castLE (by decide))))).castLE (by decide)) rfl, ht]
  rfl

/-- Sixteen rows of 384 lanes from row `o` and lane 128 lie inside the matrix of codes. -/
theorem slices_of_le (o : ℕ) (ho : o + 16 ≤ 512) : S512x512.Slices ![o, 128] S16x384 :=
  ⟨rfl, fun a => match a with | ⟨0, _⟩ => ho | ⟨1, _⟩ => Nat.le_refl 512⟩

/-- A chunk of sixteen rows from row `o`, lanes 128 to 511, as stored: the graph's embedding there. -/
theorem chunk_piece (x : Vec Ideal S7x8 .f32) (i : grid0.Coords) (n n' : BitVec 32) (hn : n' = n) (d : Vec Ideal S1x512x512 .i32)
    (t : Vec Ideal S1x128x128 .bf16) (ht : ∀ a b : Fin 128, t (ix3 (0 : Fin 1) a b) = diagonal x a.val b.val)
    (o : ℕ) (inb : ∀ a, ![0, o, 0, 128] a + ![1, 16, 8, 384] a ≤ S1x512x8x512.size a) (w : FVec Ideal S1x16x8x384 .f32)
    (hw : w = Chunk.chunk o (slices_of_le o (inb (1 : Fin 4))) (Gen.k0_pay2 (F := Ideal) i n' d) (Gen.k0_pay4 t)) (z : S1x16x8x384.Idx) :
    w z = graph x n d ((Rect.unit (s := S1x512x8x512) ![0, o, 0, 128] ![1, 16, 8, 384] inb).emb z) := by
  subst hn
  obtain ⟨u, r, f, l, rfl⟩ : ∃ u r f l, z = ix4 u r f l := ⟨_, _, _, _, eq_ix4 z⟩
  have ho : o + 16 ≤ 512 := inb (1 : Fin 4)
  have e : (Rect.unit (s := S1x512x8x512) ![0, o, 0, 128] ![1, 16, 8, 384] inb).emb (ix4 u r f l)
      = ix4 u ⟨o + r.val, by omega⟩ f ⟨128 + l.val, by omega⟩ := by
    funext q
    apply Fin.ext
    rw [Rect.emb_apply]
    match q with
    | ⟨0, _⟩ => show 0 + 1 * u.val = u.val; omega
    | ⟨1, _⟩ => show o + 1 * r.val = o + r.val; omega
    | ⟨2, _⟩ => show 0 + 1 * f.val = f.val; omega
    | ⟨3, _⟩ => show 128 + 1 * l.val = 128 + l.val; omega
  rw [e, hw]
  exact Chunk.chunk_apply x o _ _ _ (fun a b => pick n' a.val b.val (d (ix3 (0 : Fin 1) a b)))
    (Codes.codes_apply i n' d) (fun a b => (shapeCast_1ab_ab_apply _ _ a b).trans (ht a b)) u r f l _ _ rfl rfl

/-- One grid point's block: the embedding of its graph's pairs, given the two tables the kernel is handed. -/
theorem out_apply (x : Vec Ideal S7x8 .f32) (c : Dev nD) (i : grid0.Coords)
    (arg3 : Memref sig .tc .vmem S1x512x512 .i32) (harg3 : arg3.IsWhole)
    (arg4 : Memref sig .tc .vmem S1x8x128 .f32) (harg4 : arg4.IsWhole)
    (arg5 : Memref sig .tc .vmem S1x128x128 .bf16) (harg5 : arg5.IsWhole)
    (arg6 : Memref sig .tc .vmem S1x512x8x512 .f32) (harg6 : arg6.IsWhole)
    (d : Vec Ideal S1x512x512 .i32) (tc : Vec Ideal S1x8x128 .f32) (tb : Vec Ideal S1x128x128 .bf16) (nn : Vec Ideal S16 .i32)
    (htc : ∀ (f : Fin 8) (e : Fin 7), tc (ix3 (0 : Fin 1) f (e.castLE (by decide))) = cleared x e f)
    (htb : ∀ a b : Fin 128, tb (ix3 (0 : Fin 1) a b) = diagonal x a.val b.val) :
    Gen.out0_A_3 c i arg3 harg3 arg4 harg4 arg5 harg5 arg6 harg6 d tc tb nn = graph x (nn (ix1 (i 0))) d := by
  funext y
  refine View.read_writes_apply_of_pieces _ _ _ _ ?_ y (Gen.cover0_A_3 c i arg3 harg3 arg4 harg4 arg5 harg5 arg6 harg6 d tc tb nn y)
  unfold Gen.kernelRun0_A
  dsimp only
  sl_unfold_words
  have hd : View.ld d (Rect.unit (s := S1x512x512) ![0, 0, 0] S1x512x512.size Gen.inb_S1x512x512_S1x512x512_0_0_0) = d :=
    View.ld_unit_zero (by decide) _ _
  have htc' : View.ld tc (Rect.unit (s := S1x8x128) ![0, 0, 0] S1x8x128.size Gen.inb_S1x8x128_S1x8x128_0_0_0) = tc :=
    View.ld_unit_zero (by decide) _ _
  have htb' : View.ld tb (Rect.unit (s := S1x128x128) ![0, 0, 0] S1x128x128.size Gen.inb_S1x128x128_S1x128x128_0_0_0) = tb :=
    View.ld_unit_zero (by decide) _ _
  simp only [View.readAt_eq_ld, harg3.read_unread, harg4.read_unread, harg5.read_unread, hd, htc', htb']
  simp only [List.forall_mem_cons, List.not_mem_nil, false_imp_iff, implies_true, and_true]
  and_intros
  all_goals first
    | exact head_piece x i _ _ (count_apply c i nn _ _) d tc htc _
    | exact chunk_piece x i _ _ (count_apply c i nn _ _) d tb htb _ _ _ rfl

end Cert.KernelIdeal.Block

end
-- ==== Proof.Tables.lean ====
/- What the host hands the launch as its two tables: the cleared table turned and padded, and the matrix with a copy of
   it in every diagonal block. -/
module

public import proofs.«01_k».proof.Proof.Spec
public import proofs.«01_k».proof.Proof.Gen.KernelIdeal.Frame
public import Idealize.ShloMosaic.Lib.Pipeline.Value
public import Idealize.ShloMosaic.Lib.Pointwise.Tactic
public import Idealize.ShloMosaic.Lib.IdealHost
public import Idealize.ShloMosaic.Lib.Routing.OpsSet
public import Idealize.ShloMosaic.Lib.Routing.OpsPair

@[expose] public section

noncomputable section

namespace Cert.KernelIdeal.Tables

open Idealize.ShloMosaic hiding ix0 ix1 ix2 ix3 ix4 eq_ix1 eq_ix2
open Idealize.ShloMosaic.ValueIdx Idealize.ShloMosaic.TcCoe Idealize.SL Cert.Spec Cert.KernelIdeal.Gen

/-- When every index word is the small number `n`, a window starts at `n` along each axis the indices address and at `0` along the others. -/
theorem start_const {s si u : Shape} (d : ScatterDims s si u) (idx : IVec si 32) (n : ℕ) (hn : n < 2 ^ 31) (h : ∀ q, idx q = BitVec.ofNat 32 n) (j : u.Idx) (a : Fin s.rank) :
    d.start j idx a = if a ∈ d.scatterDimsToOperandDims then (n : Int) else 0 := by
  unfold ScatterDims.start
  split
  · rw [h]
    exact StableHlo.Predicate.toInt_ofNat_small n hn
  · rfl

/-- A pair of equal index words, as the host assembles it, holds that word at both places. -/
theorem pair_apply (v : BitVec 32) (q : S2.Idx) :
    concatenate S2 0 [⟨S1, broadcastInDim S1 ![] bcast_S_S1 (constantI S_ 32 v)⟩, ⟨S1, broadcastInDim S1 ![] bcast_S_S1 (constantI S_ 32 v)⟩] concatenates_S1_S1_S2_d0 q = v := by
  obtain ⟨r, rfl⟩ : ∃ r : Fin 2, q = ix1 r := ⟨q 0, eq_ix1 q⟩
  match r with
  | ⟨0, _⟩ =>
    refine (concatenate_pair_apply_left 0 _ _ concatenates_S1_S1_S2_d0 _ rfl (ix1 (0 : Fin 1)) (fun b => by rw [Subsingleton.elim b 0]; rfl)).trans ?_
    rfl
  | ⟨1, _⟩ =>
    refine (concatenate_pair_apply_right 0 _ _ concatenates_S1_S1_S2_d0 _ rfl rfl (ix1 (0 : Fin 1)) (fun b hb => (hb (Subsingleton.elim _ _)).elim) rfl).trans ?_
    rfl

/-- The embedding table after the host writes zeros over its row zero. -/
def rows (x : Vec Ideal S7x8 .f32) : Vec Ideal S7x8 .f32 :=
  Host.scatter scatter_S7x8_S1_S8_0_0_0_0 (fun _ b => b) x (broadcastInDim S1 ![] bcast_S_S1 (constantI S_ 32 0#32))
    (broadcastInDim S8 ![] bcast_S_S8 (constant (F := Ideal) S_ FTy.f32 0#32))

/-- That table's entries: zero in row zero, the given entries elsewhere. -/
theorem rows_apply (x : Vec Ideal S7x8 .f32) (e : Fin 7) (h : Fin 8) : rows x (ix2 e h) = cleared x e h := by
  have hs (k : S8.Idx) (a : Fin 2) := start_const scatter_S7x8_S1_S8_0_0_0_0 (broadcastInDim S1 ![] bcast_S_S1 (constantI S_ 32 0#32)) 0 (by decide) (fun _ => rfl) k a
  unfold rows cleared
  split
  · next he =>
    subst he
    refine Routing.scatter_set_hit _ _ _ _ _ _ (fun k _ => Ideal.ofBits_zero .f32) (ix1 h) ?_
    rw [Routing.resultIdx?_eq_some]
    intro a
    rw [hs]
    match a with
    | ⟨0, _⟩ => rfl
    | ⟨1, _⟩ => exact Int.zero_add _
  · next he =>
    refine Routing.scatter_set_miss _ _ _ _ _ fun k hk => he ?_
    rw [Routing.resultIdx?_eq_some] at hk
    have h0 := hk 0
    rw [hs] at h0
    have h1 : (0 : Int) + ((0 : ℕ) : Int) = (e.val : Int) := h0
    exact Fin.ext (by show e.val = 0; omega)

/-- The cleared table turned: heads along the first axis, rows of the table along the second. -/
def turned (x : Vec Ideal S7x8 .f32) : Vec Ideal S8x7 .f32 := transpose S8x7 [1, 0] (rows x) transposes_S7x8_S8x7_1_0

/-- The turned table's entries. -/
theorem turned_apply (x : Vec Ideal S7x8 .f32) (h : Fin 8) (e : Fin 7) : turned x (ix2 h e) = cleared x e h := by
  rw [← rows_apply]
  exact transpose_apply [1, 0] (rows x) transposes_S7x8_S8x7_1_0 (ix2 h e) (ix2 e h) fun b => by
    match b with
    | ⟨0, _⟩ => rfl
    | ⟨1, _⟩ => rfl

/-- The padded table: the turned table in the first seven columns of an 8 by 128 block of zeros. -/
def padded (x : Vec Ideal S7x8 .f32) : Vec Ideal S1x8x128 .f32 :=
  Host.scatter scatter_S1x8x128_S2_S8x7_01_0_02_0 (fun _ b => b) (broadcastInDim S1x8x128 ![] bcast_S_S1x8x128 (constant (F := Ideal) S_ FTy.f32 0#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (turned x)

/-- The padded table's entries in its first seven columns. -/
theorem padded_apply (x : Vec Ideal S7x8 .f32) (f : Fin 8) (e : Fin 7) : padded x (ix3 (0 : Fin 1) f (e.castLE (by decide))) = cleared x e f := by
  have hs (k : S8x7.Idx) (a : Fin 3) := start_const scatter_S1x8x128_S2_S8x7_01_0_02_0 _ 0 (by decide) (pair_apply 0#32) k a
  refine Routing.scatter_set_hit _ _ _ _ _ _ (fun k hk => ?_) (ix2 f e) ?_
  · rw [Routing.resultIdx?_eq_some] at hk
    have h1 := hk 1
    have h2 := hk 2
    rw [hs] at h1 h2
    have h1' : (0 : Int) + ((k 0).val : Int) = (f.val : Int) := h1
    have h2' : (0 : Int) + ((k 1).val : Int) = (e.val : Int) := h2
    rw [eq_ix2 k]
    have e1 : (k 0 : Fin 8) = f := Fin.ext (by omega)
    have e2 : (k 1 : Fin 7) = e := Fin.ext (by omega)
    exact (congrArg₂ (fun p q => turned x (ix2 p q)) e1 e2).trans (turned_apply x f e)
  · rw [Routing.resultIdx?_eq_some]
    intro a
    rw [hs]
    match a with
    | ⟨0, _⟩ => rfl
    | ⟨1, _⟩ => exact Int.zero_add _
    | ⟨2, _⟩ => exact Int.zero_add _

/-- One of the host's steps on the wide matrix: write the turned table with its corner at entry `(v, v)`. -/
def step (x : Vec Ideal S7x8 .f32) (v : BitVec 32) (t : Vec Ideal S128x128 .bf16) : Vec Ideal S128x128 .bf16 :=
  Host.scatter scatter_S128x128_S2_S8x7_01_n_01_0 (fun _ b => b) t
    (concatenate S2 0 [⟨S1, broadcastInDim S1 ![] bcast_S_S1 (constantI S_ 32 v)⟩, ⟨S1, broadcastInDim S1 ![] bcast_S_S1 (constantI S_ 32 v)⟩] concatenates_S1_S1_S2_d0)
    (truncf (F := Ideal) FTy.bf16 (turned x) bitsLt_bf16_f32)

/-- Step `g` at an entry: the turned table's entry inside the first seven columns of block `(g, g)`, what was there before elsewhere. -/
theorem step_apply (x : Vec Ideal S7x8 .f32) (g : ℕ) (hg : g < 16) (t : Vec Ideal S128x128 .bf16) (a b : Fin 128) :
    step x (BitVec.ofNat 32 (8 * g)) t (ix2 a b)
      = if h : a.val / 8 = g ∧ b.val / 8 = g ∧ b.val % 8 < 7 then cleared x ⟨b.val % 8, h.2.2⟩ ⟨a.val % 8, Nat.mod_lt _ (by decide)⟩ else t (ix2 a b) := by
  have hs (k : S8x7.Idx) (c : Fin 2) := start_const scatter_S128x128_S2_S8x7_01_n_01_0 _ (8 * g) (by omega) (pair_apply (BitVec.ofNat 32 (8 * g))) k c
  have lands (k : S8x7.Idx) (hk : scatter_S128x128_S2_S8x7_01_n_01_0.resultIdx? k (concatenate S2 0 [⟨S1, broadcastInDim S1 ![] bcast_S_S1 (constantI S_ 32 (BitVec.ofNat 32 (8 * g)))⟩, ⟨S1, broadcastInDim S1 ![] bcast_S_S1 (constantI S_ 32 (BitVec.ofNat 32 (8 * g)))⟩] concatenates_S1_S1_S2_d0) = some (ix2 a b)) :
      8 * g + (k 0).val = a.val ∧ 8 * g + (k 1).val = b.val := by
    rw [Routing.resultIdx?_eq_some] at hk
    have h0 := hk 0
    have h1 := hk 1
    rw [hs] at h0 h1
    have h0' : ((8 * g : ℕ) : Int) + ((k 0).val : Int) = (a.val : Int) := h0
    have h1' : ((8 * g : ℕ) : Int) + ((k 1).val : Int) = (b.val : Int) := h1
    omega
  split
  · next h =>
    refine Routing.scatter_set_hit _ _ _ _ _ _ (fun k hk => ?_) (ix2 (⟨a.val % 8, Nat.mod_lt _ (by decide)⟩ : Fin 8) (⟨b.val % 8, h.2.2⟩ : Fin 7)) ?_
    · have hl := lands k hk
      rw [eq_ix2 k]
      have e1 : (k 0 : Fin 8) = ⟨a.val % 8, Nat.mod_lt _ (by decide)⟩ := Fin.ext (by show (k 0).val = a.val % 8; omega)
      have e2 : (k 1 : Fin 7) = ⟨b.val % 8, h.2.2⟩ := Fin.ext (by show (k 1).val = b.val % 8; omega)
      exact (congrArg₂ (fun p q => turned x (ix2 p q)) e1 e2).trans (turned_apply x _ _)
    · rw [Routing.resultIdx?_eq_some]
      intro c
      rw [hs]
      match c with
      | ⟨0, _⟩ =>
        show ((8 * g : ℕ) : Int) + ((a.val % 8 : ℕ) : Int) = (a.val : Int)
        omega
      | ⟨1, _⟩ =>
        show ((8 * g : ℕ) : Int) + ((b.val % 8 : ℕ) : Int) = (b.val : Int)
        omega
  · next h =>
    refine Routing.scatter_set_miss _ _ _ _ _ fun k hk => h ?_
    have hl := lands k hk
    have k0 : (k 0).val < 8 := (k 0).isLt
    have k1 : (k 1).val < 7 := (k 1).isLt
    omega

/-- The wide matrix after its first `n` steps, from zeros. -/
def wide (x : Vec Ideal S7x8 .f32) : ℕ → Vec Ideal S128x128 .bf16
  | 0 => broadcastInDim S128x128 ![] bcast_S_S128x128 (constant (F := Ideal) S_ FTy.bf16 0#16)
  | n + 1 => step x (BitVec.ofNat 32 (8 * n)) (wide x n)

/-- Its entries after `n` steps: the first `n` diagonal blocks hold the table, everything else is zero. -/
theorem wide_apply (x : Vec Ideal S7x8 .f32) (a b : Fin 128) (n : ℕ) (hn : n ≤ 16) :
    wide x n (ix2 a b) = if a.val / 8 < n then diagonal x a.val b.val else 0 := by
  induction n with
  | zero => exact Ideal.ofBits_zero_bf16
  | succ n ih =>
    refine (step_apply x n (by omega) (wide x n) a b).trans ?_
    rw [ih (by omega)]
    unfold diagonal
    split_ifs <;> first | rfl | omega

/-- The matrix after all sixteen steps holds a copy of the table in every diagonal block. -/
theorem wide_all (x : Vec Ideal S7x8 .f32) (a b : Fin 128) : broadcastInDim S1x128x128 ![1, 2] bcast_S128x128_S1x128x128_1_2 (wide x 16) (ix3 (0 : Fin 1) a b) = diagonal x a.val b.val := by
  refine (broadcastInDim_apply _ _ _ (ix3 (0 : Fin 1) a b) (ix2 a b) fun c => by
    match c with
    | ⟨0, _⟩ => rfl
    | ⟨1, _⟩ => rfl).trans ?_
  rw [wide_apply x a b 16 le_rfl, if_pos (by have := a.isLt; omega)]

section Host

open Idealize.ShloMosaic.Tactic Idealize.ShloMosaic.StableHlo

variable (m : (ℓ : Loc nD τ sig) → Buf (Elt Ideal) ℓ) (c : Dev nD)

/-- The launch's second array is the padded table. -/
theorem V_main_v8 : V m c main_v8 = padded (m ((c : Thread nD τ).loc main_arg2)) := by
  dsimp only [V, V0, hostOps0]
  simp only [List.flatten_cons, List.flatten_nil, List.append_nil, List.cons_append]
  after_results
  rfl

/-- The launch's third array is the matrix with the table in every diagonal block. -/
theorem V_main_v76 : V m c main_v76 = broadcastInDim S1x128x128 ![1, 2] bcast_S128x128_S1x128x128_1_2 (wide (m ((c : Thread nD τ).loc main_arg2)) 16) := by
  dsimp only [V, V0, hostOps0]
  simp only [List.flatten_cons, List.flatten_nil, List.append_nil, List.cons_append]
  after_results
  rfl

end Host

end Cert.KernelIdeal.Tables
-- ==== Proof.Array.lean ====
/- What the launch leaves in its result array, and what the host makes of it: the embedding of every pair of nodes of
   every graph. -/
module

public import proofs.«01_k».proof.Proof.Block
public import proofs.«01_k».proof.Proof.Tables
public import Idealize.ShloMosaic.Lib.Pipeline.ValueKit.Geometry

@[expose] public section

noncomputable section

namespace Cert.KernelIdeal.Array

open Idealize.ShloMosaic hiding ix0 ix1 ix2 ix3 ix4 eq_ix1 eq_ix2 eq_ix4
open Idealize.ShloMosaic.ValueIdx Idealize.ShloMosaic.TcCoe Idealize.ShloMosaic.Tactic Idealize.ShloMosaic.Pipeline Cert.Spec Cert.KernelIdeal.Gen

variable (m : (ℓ : Loc nD τ sig) → Buf (Elt Ideal) ℓ)

/-- The distances of device `c`. -/
abbrev dist (c : Dev nD) : Vec Ideal S16x512x512 .i32 := m ((c : Thread nD τ).loc main_arg0)
/-- The node counts of device `c`. -/
abbrev nodes (c : Dev nD) : Vec Ideal S16 .i32 := m ((c : Thread nD τ).loc main_arg1)
/-- The embedding table of device `c`. -/
abbrev table (c : Dev nD) : Vec Ideal S7x8 .f32 := m ((c : Thread nD τ).loc main_arg2)

/-- Some contents of the prefetched table, at which the windows' schedule is evaluated: no index map reads it. -/
def somePre : (pcfg0 (F := Ideal)).Adm := ⟨fun | 0 => fun _ => (0#32 : BitVec 32) | ⟨_ + 1, h⟩ => absurd h (Nat.not_lt.2 (Nat.le_add_left _ _)), trivial⟩

/-- The result's blocks cover its array. -/
theorem covers_some : ((cfg0 somePre).win 3).Covers := by decide +kernel

/-- They do whatever the prefetched table holds. -/
theorem covers_any (a : (pcfg0 (F := Ideal)).Adm) : ((cfg0 a).win 3).Covers := covers_some

/-- At every point the distances' block is that of the point's graph. -/
theorem index_dist : ∀ t : Fin grid0.N, cc0_transform_0 (grid0.coords t) = ![(grid0.coords t 0).val, 0, 0] := by decide +kernel
/-- At every point the padded table's block is the whole of it. -/
theorem index_padded : ∀ t : Fin grid0.N, cc0_transform_1 (grid0.coords t) = ![0, 0, 0] := by decide +kernel
/-- At every point the wide matrix's block is the whole of it. -/
theorem index_wide : ∀ t : Fin grid0.N, cc0_transform_2 (grid0.coords t) = ![0, 0, 0] := by decide +kernel
/-- At every point the result's block is that of the point's graph. -/
theorem index_out : ∀ t : Fin grid0.N, cc0_transform_3 (grid0.coords t) = ![(grid0.coords t 0).val, 0, 0, 0] := by decide +kernel

/-- The block of distances at a point: the distances of the point's graph. -/
theorem block_dist (hO : Ok m) (c : Dev nD) (t : Fin (cfgM m hO).N) (y : S1x512x512.Idx) :
    (iblk m hO c 0 t : Vec Ideal S1x512x512 .i32) y = dist m c (ix3 (grid0.coords t 0) (y 1) (y 2)) := by
  refine (congrFun (V_main_arg0 m c) _).trans (congrArg (dist m c) ?_)
  funext a
  apply Fin.ext
  refine (Window.rect_emb_val ((cfgM m hO).win 0) t y a).trans ?_
  have e : ((cfgM m hO).win 0).index t = ![(grid0.coords t 0).val, 0, 0] := index_dist t
  rw [e]
  have y0 : (y 0).val = 0 := Nat.lt_one_iff.1 (y 0).isLt
  match a with
  | ⟨0, _⟩ =>
    show (grid0.coords t 0).val * 1 + (y 0).val = (grid0.coords t 0).val
    omega
  | ⟨1, _⟩ => exact (Nat.zero_mul _).symm ▸ Nat.zero_add _
  | ⟨2, _⟩ => exact (Nat.zero_mul _).symm ▸ Nat.zero_add _

/-- The block of the padded table at a point: all of it. -/
theorem block_padded (hO : Ok m) (c : Dev nD) (t : Fin (cfgM m hO).N) (y : S1x8x128.Idx) :
    (iblk m hO c 1 t : Vec Ideal S1x8x128 .f32) y = Tables.padded (table m c) y := by
  refine (congrFun (Tables.V_main_v8 m c) _).trans (congrArg (Tables.padded (table m c)) ?_)
  funext a
  apply Fin.ext
  refine Window.rect_emb_val_of_index_zero ((cfgM m hO).win 1) t a ?_ y
  have e : ((cfgM m hO).win 1).index t = ![0, 0, 0] := index_padded t
  rw [e]
  match a with
  | ⟨0, _⟩ => rfl
  | ⟨1, _⟩ => rfl
  | ⟨2, _⟩ => rfl

/-- Whatever the wide matrix's buffer holds, its block at a point is all of it. -/
theorem read_wide (hO : Ok m) (t : Fin (cfgM m hO).N) (f : Vec Ideal S1x128x128 .bf16) (y : S1x128x128.Idx) :
    ((((cfgM m hO).win 2).blk t).view.read (Elt Ideal) f : Vec Ideal S1x128x128 .bf16) y = f y := by
  refine congrArg f ?_
  funext a
  apply Fin.ext
  refine Window.rect_emb_val_of_index_zero ((cfgM m hO).win 2) t a ?_ y
  have e : ((cfgM m hO).win 2).index t = ![0, 0, 0] := index_wide t
  rw [e]
  match a with
  | ⟨0, _⟩ => rfl
  | ⟨1, _⟩ => rfl
  | ⟨2, _⟩ => rfl

/-- The block of the wide matrix at a point: all of it. -/
theorem block_wide (hO : Ok m) (c : Dev nD) (t : Fin (cfgM m hO).N) (y : S1x128x128.Idx) :
    (iblk m hO c 2 t : Vec Ideal S1x128x128 .bf16) y
      = broadcastInDim S1x128x128 ![1, 2] bcast_S128x128_S1x128x128_1_2 (Tables.wide (table m c) 16) y :=
  (read_wide m hO t (V m c main_v76) y).trans (congrFun (Tables.V_main_v76 m c) y)

/-- The prefetched node counts are the launch's. -/
theorem tbl_nodes (c : Dev nD) : (tbl m 0 : Vec Ideal S16 .i32) = nodes m c := by
  obtain rfl : c = 0 := Subsingleton.elim _ _
  exact V_main_arg1 m 0

/-- What a point leaves in the result's block: the embedding of the point's graph. -/
theorem point_apply (hO : Ok m) (c : Dev nD) (t : Fin (cfgM m hO).N) :
    outsAt0 m hO c t = Block.graph (table m c) (nodes m c (ix1 (grid0.coords t 0))) (iblk m hO c 0 t) := by
  unfold outsAt0
  rw [← tbl_nodes m c]
  exact Block.out_apply (table m c) c (grid0.coords t) _ _ _ _ _ _ _ _ (iblk m hO c 0 t) (iblk m hO c 1 t) (iblk m hO c 2 t) (tbl m 0)
    (fun f e => (block_padded m hO c t _).trans (Tables.padded_apply _ f e))
    (fun a b => (block_wide m hO c t _).trans (Tables.wide_all _ a b))

/-- The launch's result array, features before lanes: the embedding of every pair of nodes of every graph. -/
def launched (d : Vec Ideal S16x512x512 .i32) (n : Vec Ideal S16 .i32) (x : Vec Ideal S7x8 .f32) : Vec Ideal S16x512x8x512 .f32 :=
  fun y => cleared x (pick (n (ix1 (y 0))) (y 1).val (y 3).val (d (ix3 (y 0) (y 1) (y 3)))) (y 2)

/-- Where the result's block at a point lies in its array: at the point's graph. -/
theorem emb_out (hO : Ok m) (t : Fin (cfgM m hO).N) (y : S1x512x8x512.Idx) :
    ((((cfgM m hO).win 3).blk t).view.emb y : S16x512x8x512.Idx) = ix4 (grid0.coords t 0) (y 1) (y 2) (y 3) := by
  have e : ((cfgM m hO).win 3).index t = ![(grid0.coords t 0).val, 0, 0, 0] := index_out t
  funext a
  apply Fin.ext
  refine (Window.rect_emb_val ((cfgM m hO).win 3) t y a).trans ?_
  rw [e]
  have y0 : (y 0).val = 0 := Nat.lt_one_iff.1 (y 0).isLt
  match a with
  | ⟨0, _⟩ =>
    show (grid0.coords t 0).val * 1 + (y 0).val = (grid0.coords t 0).val
    omega
  | ⟨1, _⟩ => exact (Nat.zero_mul _).symm ▸ Nat.zero_add _
  | ⟨2, _⟩ => exact (Nat.zero_mul _).symm ▸ Nat.zero_add _
  | ⟨3, _⟩ => exact (Nat.zero_mul _).symm ▸ Nat.zero_add _

/-- What a point leaves in the result's block is the array's contents there. -/
theorem point_launched (hO : Ok m) (c : Dev nD) (t : Fin (cfgM m hO).N) (y : S1x512x8x512.Idx) :
    outsAt0 m hO c t y = launched (dist m c) (nodes m c) (table m c) (ix4 (grid0.coords t 0) (y 1) (y 2) (y 3)) := by
  rw [point_apply]
  unfold Block.graph launched
  rw [block_dist]

/-- After all sixteen points the result's array holds that. -/
theorem arrAt_out (hO : Ok m) (c : Dev nD) :
    (dats m hO 0 c).arrAt 3 (cfgM m hO).N = launched (dist m c) (nodes m c) (table m c) := by
  refine (dats m hO 0 c).arrAt_eq_of_covers 3 (launched (dist m c) (nodes m c) (table m c)) (covers_any (adm m hO)) fun t _ y => ?_
  refine (cast_eq _ _).trans ?_
  have h : (dats m hO 0 c).after 3 t = outsAt0 m hO c t := after0_3 m hO c t
  rw [h]
  refine (point_launched m hO c t y).trans ?_
  refine congrArg (launched (dist m c) (nodes m c) (table m c)) ?_
  exact (emb_out m hO t y).symm

/-- The host's exchange of the last two axes turns that array into the embedding as the reference lays it out. -/
theorem transpose_launched (d : Vec Ideal S16x512x512 .i32) (n : Vec Ideal S16 .i32) (x : Vec Ideal S7x8 .f32) :
    transpose S16x512x512x8 [0, 1, 3, 2] (launched d n x) transposes_S16x512x8x512_S16x512x512x8_0_1_3_2 = emb d n x := by
  funext y
  refine (transpose_apply [0, 1, 3, 2] (launched d n x) transposes_S16x512x8x512_S16x512x512x8_0_1_3_2 y (ix4 (y 0) (y 1) (y 3) (y 2)) fun b => ?_).trans rfl
  match b with
  | ⟨0, _⟩ => rfl
  | ⟨1, _⟩ => rfl
  | ⟨2, _⟩ => rfl
  | ⟨3, _⟩ => rfl

/-- The host's last line leaves the embedding in the kernel's result. -/
theorem tail_out (hO : Ok m) (c : Dev nD) :
    Pipeline.afterTail pcfgs (fun _ => adm m hO) (dats m hO) 0 (V0 m) [hostOps1] c main_v78 = emb (dist m c) (nodes m c) (table m c) := by
  have ha : Pipeline.withArrays spec0 c (V0 m c) (fun w => (dats m hO 0 c).arrAt w (cfgM m hO).N) (Proc.devRef .tc main_v77)
      = launched (dist m c) (nodes m c) (table m c) :=
    (Pipeline.withArrays_arr spec0 winFacts0.arr_inj c (V0 m c) _ 3).trans (arrAt_out m hO c)
  unfold Pipeline.afterTail
  simp only [hostOps1, List.flatten_cons, List.flatten_nil, List.append_nil]
  after_results
  exact (congrArg (fun f => transpose S16x512x512x8 [0, 1, 3, 2] f transposes_S16x512x8x512_S16x512x512x8_0_1_3_2) ha).trans
    (transpose_launched (dist m c) (nodes m c) (table m c))

/-- The kernel's run: its result holds the embedding, its arguments are as launched. -/
theorem run (g : Dev nD → PrngReg) (hO : Ok m) :
    θ_run defs (onTc (τ := τ) (main (F := Ideal))) ⟨m, fun _ => 0, g⟩ (fun r => ∀ c : Dev nD,
      r.2.mem ((c.tc : Thread nD τ).loc main_v78) = emb (dist m c) (nodes m c) (table m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).trans (tail_out m hO c), h.2 c⟩)
    (θ_run_and ((θ_run defs _ _).mono
      (fun r (h : Pipeline.FramePost (Pipeline.pin pcfgs fun _ => adm m hO) (dats m hO) 0 (Pipeline.afterTail pcfgs (fun _ => adm m hO) (dats m hO) 0 (V0 m) [hostOps1]) r) c =>
        (h c).2 main_v78 (by decide : main_v78 ∈ Pipeline.restRefs sig spec0)) (run_main m g hO)) (unchanged m g hO))

end Cert.KernelIdeal.Array
-- ==== Proof.Ref.lean ====
/- What the reference computes: the embedding of every pair of nodes, as a function of its three arguments. -/
module

public import proofs.«01_k».proof.Proof.Tables
public import proofs.«01_k».proof.Proof.Gen.ReferenceIdeal.Run
public import Idealize.ShloMosaic.Lib.ReduceAll
public import Idealize.ShloMosaic.Lib.Pointwise.ElementwiseCore

@[expose] public section

noncomputable section

namespace Cert.ReferenceIdeal.Ref

open Idealize.ShloMosaic hiding ix0 ix1 ix2 ix3 ix4 eq_ix1 eq_ix2
open Idealize.ShloMosaic.ValueIdx Idealize.ShloMosaic.TcCoe Idealize.SL.Sem Cert.Spec Cert.ReferenceIdeal.Gen

/-- The distances' codes, as the reference spells them. -/
def codes (d : Vec Ideal S16x512x512 .i32) : IVec S16x512x512 32 :=
  addi (minsi (broadcastInDim S16x512x512 ![] bcast_S_S16x512x512 (id (constantI S_ 32 5#32)))
    (maxsi (broadcastInDim S16x512x512 ![] bcast_S_S16x512x512 (id (constantI S_ 32 4294967295#32))) d))
    (broadcastInDim S16x512x512 ![] bcast_S_S16x512x512 (constantI S_ 32 1#32))

/-- The rows the reference's gather starts at: the codes, a negative one counted from the table's end. -/
def starts (d : Vec Ideal S16x512x512 .i32) : IVec S16x512x512x1 32 :=
  broadcastInDim S16x512x512x1 ![0, 1, 2] bcast_S16x512x512_S16x512x512x1_0_1_2
    (select (cmpi .slt (codes d) (broadcastInDim S16x512x512 ![] bcast_S_S16x512x512 (constantI S_ 32 0#32)))
      (addi (codes d) (broadcastInDim S16x512x512 ![] bcast_S_S16x512x512 (constantI S_ 32 7#32))) (codes d))

/-- A row of the table is not negative, so counting from the end leaves it alone. -/
theorem unwrapped (e : Fin 7) : Scalar.select (IntOp.cmpi .slt (BitVec.ofNat 32 e.val) 0#32)
    (IntOp.addi (BitVec.ofNat 32 e.val) 7#32) (BitVec.ofNat 32 e.val) = BitVec.ofNat 32 e.val := by
  revert e; decide

/-- A code is the number of the row it selects. -/
theorem code_eq (d : BitVec 32) : code d = BitVec.ofNat 32 (row d).val := by
  show code d = BitVec.ofNat 32 (code d).toNat
  rw [BitVec.ofNat_toNat, BitVec.setWidth_eq]

/-- The gather starts, for each pair, at the row the pair's distance selects. -/
theorem starts_apply (d : Vec Ideal S16x512x512 .i32) (y : S16x512x512x1.Idx) :
    starts d y = BitVec.ofNat 32 (row (d (ix3 (y 0) (y 1) (y 2)))).val := by
  refine (broadcastInDim_apply _ _ _ y (ix3 (y 0) (y 1) (y 2)) fun a => ?_).trans ?_
  · match a with
    | ⟨0, _⟩ => rfl
    | ⟨1, _⟩ => rfl
    | ⟨2, _⟩ => rfl
  · show Scalar.select (IntOp.cmpi .slt (code (d (ix3 (y 0) (y 1) (y 2)))) 0#32) (IntOp.addi (code (d (ix3 (y 0) (y 1) (y 2)))) 7#32)
      (code (d (ix3 (y 0) (y 1) (y 2)))) = _
    rw [code_eq, unwrapped]

/-- The reference's check, pair by pair, that the gather stays inside the table. -/
def checks (d : Vec Ideal S16x512x512 .i32) : IVec S16x512x512x1 1 :=
  andi (cmpi .sge (starts d) (broadcastInDim S16x512x512x1 ![] bcast_S_S16x512x512x1 (constantI S_ 32 0#32)))
    (cmpi .sle (starts d) (broadcastInDim S16x512x512x1 ![0, 1, 2, 3] bcast_S1x1x1x1_S16x512x512x1_0_1_2_3
      (broadcastInDim S1x1x1x1 ![3] bcast_S1_S1x1x1x1_3 (constantI S1 32 6#32))))

/-- A row of the table passes the check. -/
theorem checked (e : Fin 7) : IntOp.andi (IntOp.cmpi .sge (BitVec.ofNat 32 e.val) 0#32) (IntOp.cmpi .sle (BitVec.ofNat 32 e.val) 6#32) = 1#1 := by
  revert e; decide

/-- The check holds of every pair. -/
theorem checks_apply (d : Vec Ideal S16x512x512 .i32) (y : S16x512x512x1.Idx) : checks d y = 1#1 := by
  show IntOp.andi (IntOp.cmpi .sge (starts d y) 0#32) (IntOp.cmpi .sle (starts d y) 6#32) = 1#1
  rw [starts_apply, checked]

/-- The checks of a pair, joined. -/
def passed (d : Vec Ideal S16x512x512 .i32) : IVec S16x512x512 1 :=
  Host.reduce IntOp.andi (checks d) (constantI S_ 1 1#1) reducesTo_S16x512x512x1_S16x512x512_d3 h_S_

/-- Every pair passes. -/
theorem passed_apply (d : Vec Ideal S16x512x512 .i32) (q : S16x512x512.Idx) : passed d q = 1#1 :=
  Host.reduce_andi_one (checks d) (constantI S_ 1 1#1) reducesTo_S16x512x512x1_S16x512x512_d3 h_S_ q rfl (checks_apply d)

/-- The reference's gather read at an index: the row at the start index, read signed and kept inside the table, at the index's last coordinate. -/
theorem gather_apply (x : Vec Ideal S7x8 .f32) (s : IVec S16x512x512x1 32) (y : S16x512x512x8.Idx) :
    Host.gather gather_S7x8_S16x512x512x1_S16x512x512x8_3_0_n_n_0_3_18 x s y
      = x (ix2 (⟨min (s (ix4 (y 0) (y 1) (y 2) (0 : Fin 1))).toInt.toNat 6, by omega⟩ : Fin 7) (y 3)) := by
  unfold Host.gather
  refine congrArg x ?_
  funext a
  refine Fin.ext ?_
  show (gather_S7x8_S16x512x512x1_S16x512x512x8_3_0_n_n_0_3_18).start y s a
    + (gather_S7x8_S16x512x512x1_S16x512x512x8_3_0_n_n_0_3_18).batchCoord y a
    + (gather_S7x8_S16x512x512x1_S16x512x512x8_3_0_n_n_0_3_18).offCoord y a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    have hs : (gather_S7x8_S16x512x512x1_S16x512x512x8_3_0_n_n_0_3_18).siIdx y
        ⟨List.idxOf (0 : Fin 2) (gather_S7x8_S16x512x512x1_S16x512x512x8_3_0_n_n_0_3_18).startIndexMap,
          List.idxOf_lt_length_iff.2 (List.mem_singleton.mpr rfl)⟩ = ix4 (y 0) (y 1) (y 2) (0 : Fin 1) := by
      funext b; refine Fin.ext ?_
      match b with
      | ⟨0, _⟩ => rfl
      | ⟨1, _⟩ => rfl
      | ⟨2, _⟩ => rfl
      | ⟨3, _⟩ => rfl
    exact (dif_pos (show (0 : Fin 2) ∈ (gather_S7x8_S16x512x512x1_S16x512x512x8_3_0_n_n_0_3_18).startIndexMap from List.mem_singleton.mpr rfl)).trans
      (congrArg (fun q => min (s q).toInt.toNat 6) hs)
  | ⟨1, _⟩ => exact Nat.zero_add _

/-- The reference's table with its first row cleared. -/
def rowsOf (x : Vec Ideal S7x8 .f32) : Vec Ideal S7x8 .f32 :=
  Host.scatter scatter_S7x8_S1_S8_0_0_0_0 (fun _ b => b) x (broadcastInDim S1 ![] bcast_S_S1 (constantI S_ 32 0#32))
    (broadcastInDim S8 ![] bcast_S_S8 (constant (F := Ideal) S_ .f32 0x00000000#32))

/-- The cleared table's entries. -/
theorem rowsOf_apply (x : Vec Ideal S7x8 .f32) (e : Fin 7) (h : Fin 8) : rowsOf x (ix2 e h) = cleared x e h :=
  KernelIdeal.Tables.rows_apply x e h

/-- The rows the reference takes from the cleared table, with its guard against rows outside of it. -/
def taken (d : Vec Ideal S16x512x512 .i32) (x : Vec Ideal S7x8 .f32) : Vec Ideal S16x512x512x8 .f32 :=
  select (broadcastInDim S16x512x512x8 ![0, 1, 2] bcast_S16x512x512_S16x512x512x8_0_1_2
      (passed d))
    (Host.gather gather_S7x8_S16x512x512x1_S16x512x512x8_3_0_n_n_0_3_18
      (rowsOf x) (starts d))
    (broadcastInDim S16x512x512x8 ![] bcast_S_S16x512x512x8 (constant (F := Ideal) S_ .f32 0x7FC00000#32))

/-- Row `e` as a start index, read signed and kept inside the table, is `e`. -/
theorem kept (e : Fin 7) : min (BitVec.ofNat 32 e.val).toInt.toNat 6 = e.val := by revert e; decide

/-- What the reference takes for a pair: the row of the cleared table the pair's distance selects. -/
theorem taken_apply (d : Vec Ideal S16x512x512 .i32) (x : Vec Ideal S7x8 .f32) (y : S16x512x512x8.Idx) :
    taken d x y = cleared x (row (d (ix3 (y 0) (y 1) (y 2)))) (y 3) := by
  have hc : broadcastInDim S16x512x512x8 ![0, 1, 2] bcast_S16x512x512_S16x512x512x8_0_1_2 (passed d) y = 1#1 :=
    passed_apply d _
  have he : (⟨min (starts d (ix4 (y 0) (y 1) (y 2) (0 : Fin 1))).toInt.toNat 6, by omega⟩ : Fin 7) = row (d (ix3 (y 0) (y 1) (y 2))) := by
    apply Fin.ext
    refine (congrArg (fun q : BitVec 32 => min q.toInt.toNat 6) (starts_apply d _)).trans ?_
    exact kept _
  unfold taken
  rw [select_apply, hc, select_one]
  refine (gather_apply _ (starts d) y).trans ?_
  refine (congrArg (fun e => rowsOf x (ix2 e (y 3))) he).trans ?_
  exact rowsOf_apply x _ _

/-- Which nodes are inside their graphs, as bits. -/
def valid (n : Vec Ideal S16 .i32) : IVec S16x512 1 :=
  cmpi .slt (broadcastInDim S16x512 ![0, 1] bcast_S1x512_S16x512_0_1 (broadcastInDim S1x512 ![1] bcast_S512_S1x512_1 (iotaInDim S512 32 0)))
    (broadcastInDim S16x512 ![0, 1] bcast_S16x1_S16x512_0_1 (broadcastInDim S16x1 ![0] bcast_S16_S16x1_0 n))

/-- Node `i` of graph `b` is inside when its number is below the graph's count. -/
theorem valid_apply (n : Vec Ideal S16 .i32) (b : Fin 16) (i : Fin 512) : valid n (ix2 b i) = inside (n (ix1 b)) i.val := by
  show IntOp.cmpi .slt (BitVec.ofNat 32 _) (n _) = IntOp.cmpi .slt (BitVec.ofNat 32 i.val) (n (ix1 b))
  refine congrArg₂ (IntOp.cmpi .slt) rfl (congrArg n ?_)
  funext a
  match a with
  | ⟨0, _⟩ => rfl

/-- The reference's mask: one where both nodes are inside, zero elsewhere. -/
def mask (n : Vec Ideal S16 .i32) : Vec Ideal S16x512x512x8 .f32 :=
  broadcastInDim S16x512x512x8 ![0, 1, 2, 3] bcast_S16x512x512x1_S16x512x512x8_0_1_2_3
    (uitofp (F := Ideal) .f32 (broadcastInDim S16x512x512x1 ![0, 1, 2] bcast_S16x512x512_S16x512x512x1_0_1_2
      (andi (broadcastInDim S16x512x512 ![0, 1, 2] bcast_S16x512x1_S16x512x512_0_1_2 (broadcastInDim S16x512x1 ![0, 1] bcast_S16x512_S16x512x1_0_1 (valid n)))
        (broadcastInDim S16x512x512 ![0, 1, 2] bcast_S16x1x512_S16x512x512_0_1_2 (broadcastInDim S16x1x512 ![0, 2] bcast_S16x512_S16x1x512_0_2 (valid n))))))

/-- The mask's entries, from the two nodes' bits. -/
theorem mask_apply (n : Vec Ideal S16 .i32) (y : S16x512x512x8.Idx) :
    mask n y = (((IntOp.andi (inside (n (ix1 (y 0))) (y 1).val) (inside (n (ix1 (y 0))) (y 2).val)).toNat : ℝ) : EReal) := by
  rw [← valid_apply n (y 0) (y 1), ← valid_apply n (y 0) (y 2)]
  have h (p q : S16x512.Idx) (hp : p = ix2 (y 0) (y 1)) (hq : q = ix2 (y 0) (y 2)) :
      (((IntOp.andi (valid n p) (valid n q)).toNat : ℝ) : EReal)
        = (((IntOp.andi (valid n (ix2 (y 0) (y 1))) (valid n (ix2 (y 0) (y 2)))).toNat : ℝ) : EReal) := by subst hp hq; rfl
  refine h _ _ ?_ ?_
  · funext a
    match a with
    | ⟨0, _⟩ => rfl
    | ⟨1, _⟩ => rfl
  · funext a
    match a with
    | ⟨0, _⟩ => rfl
    | ⟨1, _⟩ => rfl

/-- A row times the mask of a pair is the row the pair selects, the cleared first one where the mask is zero. -/
theorem masked (x : Vec Ideal S7x8 .f32) (n : BitVec 32) (i j : ℕ) (d : BitVec 32) (h : Fin 8) :
    cleared x (row d) h * (((IntOp.andi (inside n i) (inside n j)).toNat : ℝ) : EReal) = cleared x (pick n i j d) h := by
  have hz : cleared x 0 h = 0 := if_pos rfl
  unfold pick
  by_cases hi : inside n i = 1
  · by_cases hj : inside n j = 1
    · rw [if_pos ⟨hi, hj⟩, hi, hj]
      have : (IntOp.andi (1 : BitVec 1) 1).toNat = 1 := rfl
      rw [this, Nat.cast_one, EReal.coe_one, mul_one]
    · rw [if_neg fun h => hj h.2, eq_zero_of_ne_one hj, hz]
      have : (IntOp.andi (inside n i) 0#1).toNat = 0 := by show (inside n i &&& 0#1).toNat = 0; rw [BitVec.and_zero]; rfl
      rw [this, Nat.cast_zero, EReal.coe_zero, mul_zero]
  · rw [if_neg fun h => hi h.1, eq_zero_of_ne_one hi, hz]
    have : (IntOp.andi 0#1 (inside n j)).toNat = 0 := by show (0#1 &&& inside n j).toNat = 0; rw [BitVec.zero_and]; rfl
    rw [this, Nat.cast_zero, EReal.coe_zero, mul_zero]

/-- The reference's rows times its mask, at an index: the embedding there. -/
theorem product_apply (d : Vec Ideal S16x512x512 .i32) (n : Vec Ideal S16 .i32) (x : Vec Ideal S7x8 .f32) (y : S16x512x512x8.Idx) :
    mulf (F := Ideal) (φ := .f32) (taken d x) (mask n) y = emb d n x y := by
  rw [mulf_apply, taken_apply, mask_apply]
  exact masked x (n (ix1 (y 0))) (y 1).val (y 2).val (d (ix3 (y 0) (y 1) (y 2))) (y 3)

/-- The reference's rows times its mask: the embedding of every pair of nodes. -/
theorem product_eq (d : Vec Ideal S16x512x512 .i32) (n : Vec Ideal S16 .i32) (x : Vec Ideal S7x8 .f32) :
    mulf (F := Ideal) (φ := .f32) (taken d x) (mask n) = emb d n x :=
  funext (product_apply d n x)

/-- The reference's result is its rows times its mask. -/
theorem result_fold (m : (ℓ : Loc nD τ sig) → Buf (Elt Ideal) ℓ) (c : Dev nD) :
    Value.res_main_v21 m c = mulf (F := Ideal) (φ := .f32)
      (taken (m ((c.tc : Thread nD τ).loc main_arg0)) (m ((c.tc : Thread nD τ).loc main_arg2))) (mask (m ((c.tc : Thread nD τ).loc main_arg1))) := by
  unfold Value.res_main_v21 taken passed checks starts codes mask valid rowsOf
  rfl

/-- The reference's result is the embedding of its arguments. -/
theorem result_eq (m : (ℓ : Loc nD τ sig) → Buf (Elt Ideal) ℓ) (c : Dev nD) :
    Value.res_main_v21 m c = emb (m ((c.tc : Thread nD τ).loc main_arg0)) (m ((c.tc : Thread nD τ).loc main_arg1)) (m ((c.tc : Thread nD τ).loc main_arg2)) :=
  (result_fold m c).trans
    (product_eq (m ((c.tc : Thread nD τ).loc main_arg0)) (m ((c.tc : Thread nD τ).loc main_arg1)) (m ((c.tc : Thread nD τ).loc main_arg2)))

/-- The reference's run: its result holds the embedding, its arguments are as launched. -/
theorem run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v21)
        = emb (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m c), (h c).2⟩) (Value.run m g)

end Cert.ReferenceIdeal.Ref

end
-- ==== Proof.lean ====
/- The claim, assembled: the three frames, the step from the kernel to its idealization, and the equation of the kernel's
   result with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Array
public import proofs.«01_k».proof.Proof.Ref

@[expose] public section

noncomputable section

namespace Cert.Proof

open Idealize.ShloMosaic Idealize.ShloMosaic.TcCoe Idealize.SL.Sem

/-- Read over the extended reals, the kernel and the reference, started from memories that agree on the arguments, both end with
    the same result, which is the embedding of every pair of nodes, and leave their arguments as they were. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.Spec.emb (KernelIdeal.Array.dist m c) (KernelIdeal.Array.nodes m c) (KernelIdeal.Array.table m c),
    KernelIdeal.Array.run m g (ok_kernelIdeal m), ?_⟩
  refine (θ_run (Cert.ReferenceIdeal.defs (F := Ideal)) _ _).mono (fun r h c => ⟨(h c).1.trans ?_, (h c).2⟩) (ReferenceIdeal.Ref.run m' g')
  obtain ⟨h0, h1, h2⟩ := hm c
  rw [h0, h1, h2]

/-- The certificate's claim. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
